-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x7168 : Shape := ⟨3, ![2, 2048, 7168]⟩
abbrev S1792x7168 : Shape := ⟨2, ![1792, 7168]⟩
abbrev S1792 : Shape := ⟨1, ![1792]⟩
abbrev S_ : Shape := ⟨0, ![]⟩
abbrev S1 : Shape := ⟨1, ![1]⟩
abbrev S4096x7168 : Shape := ⟨2, ![4096, 7168]⟩
abbrev S1x1792 : Shape := ⟨2, ![1, 1792]⟩
abbrev S4096x1792 : Shape := ⟨2, ![4096, 1792]⟩
abbrev S512x7168 : Shape := ⟨2, ![512, 7168]⟩
abbrev S512x1792 : Shape := ⟨2, ![512, 1792]⟩
abbrev S2x2048x1792 : Shape := ⟨3, ![2, 2048, 1792]⟩

abbrev nBuf : Space → Nat
  | .hbm => 13
  | .vmem => 9
  | .smem => 1
  | _ => 0

abbrev bufTy : (tb : Table) → Fin (tcTables nBuf tb) → BufTy
  | .hbm, ⟨0, _⟩ => ⟨S2x2048x7168, .bf16⟩
  | .hbm, ⟨1, _⟩ => ⟨S1792x7168, .fp8e4m3⟩
  | .hbm, ⟨2, _⟩ => ⟨S1792, .f32⟩
  | .hbm, ⟨3, _⟩ => ⟨S_, .f32⟩
  | .hbm, ⟨4, _⟩ => ⟨S1792, .bf16⟩
  | .hbm, ⟨5, _⟩ => ⟨S1, .f32⟩
  | .hbm, ⟨6, _⟩ => ⟨S4096x7168, .bf16⟩
  | .hbm, ⟨7, _⟩ => ⟨S1x1792, .f32⟩
  | .hbm, ⟨8, _⟩ => ⟨S1x1792, .bf16⟩
  | .hbm, ⟨9, _⟩ => ⟨S4096x1792, .bf16⟩
  | .hbm, ⟨10, _⟩ => ⟨S4096x7168, .fp8e4m3⟩
  | .hbm, ⟨11, _⟩ => ⟨S2x2048x1792, .bf16⟩
  | .hbm, ⟨12, _⟩ => ⟨S2x2048x7168, .fp8e4m3⟩
  | .local _ .vmem, ⟨0, _⟩ => ⟨S512x7168, .bf16⟩
  | .local _ .vmem, ⟨1, _⟩ => ⟨S512x7168, .bf16⟩
  | .local _ .vmem, ⟨2, _⟩ => ⟨S1792x7168, .fp8e4m3⟩
  | .local _ .vmem, ⟨3, _⟩ => ⟨S1x1792, .f32⟩
  | .local _ .vmem, ⟨4, _⟩ => ⟨S1x1792, .bf16⟩
  | .local _ .vmem, ⟨5, _⟩ => ⟨S512x1792, .bf16⟩
  | .local _ .vmem, ⟨6, _⟩ => ⟨S512x1792, .bf16⟩
  | .local _ .vmem, ⟨7, _⟩ => ⟨S512x7168, .fp8e4m3⟩
  | .local _ .vmem, ⟨8, _⟩ => ⟨S512x7168, .fp8e4m3⟩
  | .local _ .smem, ⟨0, _⟩ => ⟨S1, .f32⟩
  | _, _ => ⟨S2x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x7168 : Shape := ⟨3, ![2, 2048, 7168]⟩
abbrev S1792x7168 : Shape := ⟨2, ![1792, 7168]⟩
abbrev S1792 : Shape := ⟨1, ![1792]⟩
abbrev S_ : Shape := ⟨0, ![]⟩
abbrev S1x1x1792 : Shape := ⟨3, ![1, 1, 1792]⟩
abbrev S1x1x1 : Shape := ⟨3, ![1, 1, 1]⟩
abbrev S2x2048x1792 : Shape := ⟨3, ![2, 2048, 1792]⟩

abbrev nBuf : Space → Nat
  | .hbm => 10
  | .vmem => 7
  | .smem => 0
  | _ => 0

abbrev bufTy : (tb : Table) → Fin (tcTables nBuf tb) → BufTy
  | .hbm, ⟨0, _⟩ => ⟨S2x2048x7168, .bf16⟩
  | .hbm, ⟨1, _⟩ => ⟨S1792x7168, .fp8e4m3⟩
  | .hbm, ⟨2, _⟩ => ⟨S1792, .f32⟩
  | .hbm, ⟨3, _⟩ => ⟨S_, .f32⟩
  | .hbm, ⟨4, _⟩ => ⟨S1792, .bf16⟩
  | .hbm, ⟨5, _⟩ => ⟨S1x1x1792, .f32⟩
  | .hbm, ⟨6, _⟩ => ⟨S1x1x1, .f32⟩
  | .hbm, ⟨7, _⟩ => ⟨S1x1x1792, .bf16⟩
  | .hbm, ⟨8, _⟩ => ⟨S2x2048x1792, .bf16⟩
  | .hbm, ⟨9, _⟩ => ⟨S2x2048x7168, .fp8e4m3⟩
  | .local _ .vmem, ⟨0, _⟩ => ⟨S2x2048x7168, .bf16⟩
  | .local _ .vmem, ⟨1, _⟩ => ⟨S1792x7168, .fp8e4m3⟩
  | .local _ .vmem, ⟨2, _⟩ => ⟨S1x1x1792, .f32⟩
  | .local _ .vmem, ⟨3, _⟩ => ⟨S1x1x1, .f32⟩
  | .local _ .vmem, ⟨4, _⟩ => ⟨S1x1x1792, .bf16⟩
  | .local _ .vmem, ⟨5, _⟩ => ⟨S2x2048x1792, .bf16⟩
  | .local _ .vmem, ⟨6, _⟩ => ⟨S2x2048x7168, .fp8e4m3⟩
  | _, _ => ⟨S2x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBlock.lean ====
/-
  What one grid point of the kernel computes: the two blocks it leaves are the body's two payloads of the blocks it loads.
  The point stores its codes, reads them back, and multiplies what it read; so the product is of the codes just stored.
-/
module

public import proofs.«01_k».proof.Proof.Gen.KernelIdeal.Frame
public import Idealize.ShloMosaic.Lib.Pipeline.Value
public import Idealize.ShloMosaic.Lib.Affine

@[expose] public section

set_option maxRecDepth 16384

noncomputable section

namespace Cert.Proof.KernelBlock

open Idealize.ShloMosaic Idealize.ShloMosaic.TcCoe Idealize.SL.Sem
open Cert.KernelIdeal Cert.KernelIdeal.Gen

variable {F : FTy → Type} [FloatOps F]

/-- The only index of the one-element scale buffer. -/
def i1 : S1.Idx := fun a => match a with | ⟨0, _⟩ => ⟨0, by show 0 < 1; omega⟩

-- a rectangle at the origin of a buffer, as the program writes it
theorem hz6 : (![0, 0] : Fin S512x7168.rank → Nat) = fun _ => 0 := funext fun a => by fin_cases a <;> rfl
theorem hzw : (![0, 0] : Fin S1792x7168.rank → Nat) = fun _ => 0 := funext fun a => by fin_cases a <;> rfl
theorem hzb : (![0, 0] : Fin S1x1792.rank → Nat) = fun _ => 0 := funext fun a => by fin_cases a <;> rfl
theorem hz5 : (![0, 0] : Fin S512x1792.rank → Nat) = fun _ => 0 := funext fun a => by fin_cases a <;> rfl

/-- The scale a point reads from scalar memory is the buffer's one word. -/
theorem scale_eq (c : Dev nD) (arg1 : Memref sig .tc .smem S1 .f32) (harg1 : arg1.IsWhole) (x0 : Vec F S1 .f32) :
    kernelRun0_A.sl.r c arg1 harg1 x0 = x0 i1 := by
  delta kernelRun0_A.sl.r
  rw [View.readAt_eq_ld, harg1.read_unread]
  refine congrArg x0 (funext fun a => Fin.ext ?_)
  fin_cases a
  rfl

/-- The codes a point leaves: the quantised input block. -/
theorem out6_eq (c : Dev nD) (i : grid0.Coords) (arg1 : Memref sig .tc .smem S1 .f32) (harg1 : arg1.IsWhole) (arg2 : Memref sig .tc .vmem S512x7168 .bf16) (harg2 : arg2.IsWhole) (arg3 : Memref sig .tc .vmem S1792x7168 .fp8e4m3) (harg3 : arg3.IsWhole) (arg4 : Memref sig .tc .vmem S1x1792 .f32) (harg4 : arg4.IsWhole) (arg5 : Memref sig .tc .vmem S1x1792 .bf16) (harg5 : arg5.IsWhole) (arg6 : Memref sig .tc .vmem S512x1792 .bf16) (harg6 : arg6.IsWhole) (arg7 : Memref sig .tc .vmem S512x7168 .fp8e4m3) (harg7 : arg7.IsWhole)
    (x0 : Vec F S1 .f32) (x1 : Vec F S512x7168 .bf16) (x2 : Vec F S1792x7168 .fp8e4m3) (x3 : Vec F S1x1792 .f32) (x4 : Vec F S1x1792 .bf16) :
    out0_A_6 c i arg1 harg1 arg2 harg2 arg3 harg3 arg4 harg4 arg5 harg5 arg6 harg6 arg7 harg7 x0 x1 x2 x3 x4
      = k0_pay1 (x0 i1) x1 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  delta kernelRun0_A.sl.H6_1
  rw [View.canon_unit_zero hz6, View.readAt_eq_ld, harg2.read_unread, View.ld_unit_zero hz6, scale_eq]

/-- The rows of the result a point leaves: the product of the codes it stored, scaled and offset. -/
theorem out5_eq (c : Dev nD) (i : grid0.Coords) (arg1 : Memref sig .tc .smem S1 .f32) (harg1 : arg1.IsWhole) (arg2 : Memref sig .tc .vmem S512x7168 .bf16) (harg2 : arg2.IsWhole) (arg3 : Memref sig .tc .vmem S1792x7168 .fp8e4m3) (harg3 : arg3.IsWhole) (arg4 : Memref sig .tc .vmem S1x1792 .f32) (harg4 : arg4.IsWhole) (arg5 : Memref sig .tc .vmem S1x1792 .bf16) (harg5 : arg5.IsWhole) (arg6 : Memref sig .tc .vmem S512x1792 .bf16) (harg6 : arg6.IsWhole) (arg7 : Memref sig .tc .vmem S512x7168 .fp8e4m3) (harg7 : arg7.IsWhole)
    (x0 : Vec F S1 .f32) (x1 : Vec F S512x7168 .bf16) (x2 : Vec F S1792x7168 .fp8e4m3) (x3 : Vec F S1x1792 .f32) (x4 : Vec F S1x1792 .bf16) :
    out0_A_5 c i arg1 harg1 arg2 harg2 arg3 harg3 arg4 harg4 arg5 harg5 arg6 harg6 arg7 harg7 x0 x1 x2 x3 x4
      = k0_pay2 (x0 i1) (k0_pay1 (x0 i1) x1) x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  delta kernelRun0_A.sl.v12 kernelRun0_A.sl.H6_1
  rw [View.canon_unit_zero hz5]
  rw [View.readAt_eq_ld, View.readAt_eq_ld, View.readAt_eq_ld, View.readAt_eq_ld, harg2.read_unread, harg3.read_unread, harg4.read_unread, harg5.read_unread, View.ld_unit_zero hz6, View.ld_unit_zero hzw, View.ld_unit_zero hzb, View.ld_unit_zero hzb,
    View.readCov_cons_toLoadRect, scale_eq]

end Cert.Proof.KernelBlock

end
-- ==== Proof.Spec.lean ====
/-
  The plain mathematics of the layer, on extended reals: how one activation becomes a code, and what one output element is.
  Both programs are shown to compute `outs` and `codes`.
-/
module

public import Idealize.ShloMosaic.Lib.Pipeline.Value
public import Idealize.ShloMosaic.Lib.Pointwise

@[expose] public section

noncomputable section

namespace Cert.Proof.Spec

open Idealize.ShloMosaic

/-- The code of the activation `x` under the input scale `s`: the quotient, limited to ±448. -/
def code (s x : EReal) : EReal :=
  min (Ideal.ofBits .f32 0x43E00000#32) (max (Ideal.ofBits .f32 0xC3E00000#32) (Ideal.div x s))

/-- One output element: the row's codes times the weight's row, rescaled by both scales, plus the bias. -/
def linear (s : EReal) (x w : Fin 7168 → EReal) (ws b : EReal) : EReal :=
  (∑ k : Fin 7168, code s (x k) * w k) * (s * ws) + b

/-- The whole result, of the five arguments. -/
def outs (x : (⟨3, ![2, 2048, 7168]⟩ : Shape).Idx → EReal) (w : (⟨2, ![1792, 7168]⟩ : Shape).Idx → EReal)
    (ws : (⟨1, ![1792]⟩ : Shape).Idx → EReal) (s : EReal) (b : (⟨1, ![1792]⟩ : Shape).Idx → EReal) :
    (⟨3, ![2, 2048, 1792]⟩ : Shape).Idx → EReal := fun i =>
  linear s (fun k => x (ix3 (i 0) (i 1) k)) (fun k => w (ix2 (i 2) k)) (ws (ix1 (i 2))) (b (ix1 (i 2)))

/-- All the codes. -/
def codes (x : (⟨3, ![2, 2048, 7168]⟩ : Shape).Idx → EReal) (s : EReal) : (⟨3, ![2, 2048, 7168]⟩ : Shape).Idx → EReal := fun i =>
  code s (x i)

end Cert.Proof.Spec

end
-- ==== Proof.KernelPayload.lean ====
/-
  The kernel's two payloads read at an index, on extended reals: a code is `Spec.code` of the element, and an output element
  is `Spec.linear` of its row of activations and its row of weights.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.KernelPayload

open Idealize.ShloMosaic
open Cert.KernelIdeal Cert.KernelIdeal.Gen

/-- A code the kernel computes: the quotient by the scale, limited to ±448. -/
theorem pay1_apply (s : Elt Ideal .f32) (x : Vec Ideal S512x7168 .bf16) (i : Fin 512) (k : Fin 7168) :
    k0_pay1 (F := Ideal) s x (ix2 i k) = Spec.code s (x (ix2 i k)) := by
  unfold k0_pay1 Spec.code
  pointwise

/-- An output element of a block: the layer's output of its row of activations and its row of weights. -/
theorem pay2_apply (s : Elt Ideal .f32) (x : Vec Ideal S512x7168 .bf16) (w : Vec Ideal S1792x7168 .fp8e4m3)
    (ws : Vec Ideal S1x1792 .f32) (b : Vec Ideal S1x1792 .bf16) (i : Fin 512) (n : Fin 1792) :
    k0_pay2 (F := Ideal) s (k0_pay1 s x) w ws b (ix2 i n)
      = Spec.linear s (fun k => x (ix2 i k)) (fun k => w (ix2 n k)) (ws (ix2 (0 : Fin 1) n)) (b (ix2 (0 : Fin 1) n)) := by
  unfold k0_pay2 Spec.linear
  simp only [← pay1_apply]
  pointwise

end Cert.Proof.KernelPayload

end
-- ==== Proof.KernelArray.lean ====
/-
  What the kernel's two pipelined arrays hold after its eight points, on extended reals: point `t` writes rows
  512 t … 512 t + 511 of both, and the eight blocks fill them.
-/
module

public import proofs.«01_k».proof.Proof.KernelBlock
public import proofs.«01_k».proof.Proof.KernelPayload
public import Idealize.ShloMosaic.Lib.Claim

@[expose] public section

set_option maxRecDepth 16384

noncomputable section

namespace Cert.Proof.KernelArray

open Idealize.ShloMosaic Idealize.ShloMosaic.TcCoe Idealize.SL.Sem
open Idealize.ShloMosaic.Pipeline (Dat)
open Cert.KernelIdeal Cert.KernelIdeal.Gen
open Cert.Proof.KernelBlock

section Blocks

variable {F : FTy → Type} [FloatOps F]
variable (m : (ℓ : Loc nD τ sig) → Buf (Elt F) ℓ)

/-- Row `i` of point `t`'s block, as a row of the array. -/
def row (t : Fin cfg0.N) (i : Fin 512) : Fin 4096 :=
  ⟨t.val * 512 + i.val, by have := t.isLt; have : cfg0.N = 8 := N_0; have := i.isLt; omega⟩

/-- The scale's block is the one-word array, at every point. -/
theorem blk0 (c : Dev nD) (t : Fin cfg0.N) : iblk m c 0 t = V m c main_v0 :=
  Memref.read_access_unit_zero (Elt F) main_v0 (off := fun a => win0_0.index t a * main_v0.ty.shape.size a)
    (funext fun a => by fin_cases a; rcases fin_N0 t with rfl | rfl | rfl | rfl | rfl | rfl | rfl | rfl <;> decide)
    (fun a => by fin_cases a; rcases fin_N0 t with rfl | rfl | rfl | rfl | rfl | rfl | rfl | rfl <;> decide) _

/-- The weights' block is the whole array, at every point. -/
theorem blk2 (c : Dev nD) (t : Fin cfg0.N) : iblk m c 2 t = V m c main_arg1 := by
  have h : ∀ t : Fin grid0.N, win0_2.index t 0 = 0 ∧ win0_2.index t 1 = 0 := by decide +kernel
  refine funext fun y => congrArg (V m c main_arg1) (funext fun a => Fin.ext ?_)
  match a with
  | ⟨0, _⟩ => show win0_2.index t 0 * 1792 + 1 * (y 0).val = (y 0).val; rw [(h t).1]; omega
  | ⟨1, _⟩ => show win0_2.index t 1 * 7168 + 1 * (y 1).val = (y 1).val; rw [(h t).2]; omega

/-- The weight scales' block is the whole array, at every point. -/
theorem blk3 (c : Dev nD) (t : Fin cfg0.N) : iblk m c 3 t = V m c main_v2 := by
  have h : ∀ t : Fin grid0.N, win0_3.index t 0 = 0 ∧ win0_3.index t 1 = 0 := by decide +kernel
  refine funext fun y => congrArg (V m c main_v2) (funext fun a => Fin.ext ?_)
  match a with
  | ⟨0, _⟩ => show win0_3.index t 0 * 1 + 1 * (y 0).val = (y 0).val; rw [(h t).1]; omega
  | ⟨1, _⟩ => show win0_3.index t 1 * 1792 + 1 * (y 1).val = (y 1).val; rw [(h t).2]; omega

/-- The bias's block is the whole array, at every point. -/
theorem blk4 (c : Dev nD) (t : Fin cfg0.N) : iblk m c 4 t = V m c main_v3 := by
  have h : ∀ t : Fin grid0.N, win0_4.index t 0 = 0 ∧ win0_4.index t 1 = 0 := by decide +kernel
  refine funext fun y => congrArg (V m c main_v3) (funext fun a => Fin.ext ?_)
  match a with
  | ⟨0, _⟩ => show win0_4.index t 0 * 1 + 1 * (y 0).val = (y 0).val; rw [(h t).1]; omega
  | ⟨1, _⟩ => show win0_4.index t 1 * 1792 + 1 * (y 1).val = (y 1).val; rw [(h t).2]; omega

/-- The activations' block at point `t` is rows 512 t … 512 t + 511 of the array. -/
theorem blk1 (c : Dev nD) (t : Fin cfg0.N) (i : Fin 512) (k : Fin 7168) :
    (iblk m c 1 t : Vec F S512x7168 .bf16) (ix2 i k) = (V m c main_v1 : Vec F S4096x7168 .bf16) (ix2 (row t i) k) := by
  have h : ∀ t : Fin grid0.N, win0_1.index t 0 = t.val ∧ win0_1.index t 1 = 0 := by decide +kernel
  refine congrArg (V m c main_v1) (funext fun a => Fin.ext ?_)
  match a with
  | ⟨0, _⟩ => show win0_1.index t 0 * 512 + 1 * i.val = t.val * 512 + i.val; rw [(h t).1]; omega
  | ⟨1, _⟩ => show win0_1.index t 1 * 7168 + 1 * k.val = k.val; rw [(h t).2]; omega

/-- Where point `t`'s block of the result lies in its array. -/
theorem read5 (t : Fin cfg0.N) (G : Vec F S4096x1792 .bf16) (i : Fin 512) (n : Fin 1792) :
    (((cfg0.win 5).blk t).view.read (Elt F) G : Vec F S512x1792 .bf16) (ix2 i n) = G (ix2 (row t i) n) := by
  have h : ∀ t : Fin grid0.N, win0_5.index t 0 = t.val ∧ win0_5.index t 1 = 0 := by decide +kernel
  refine congrArg G (funext fun a => Fin.ext ?_)
  match a with
  | ⟨0, _⟩ => show win0_5.index t 0 * 512 + 1 * i.val = t.val * 512 + i.val; rw [(h t).1]; omega
  | ⟨1, _⟩ => show win0_5.index t 1 * 1792 + 1 * n.val = n.val; rw [(h t).2]; omega

/-- Where point `t`'s block of the codes lies in its array. -/
theorem read6 (t : Fin cfg0.N) (G : Vec F S4096x7168 .fp8e4m3) (i : Fin 512) (k : Fin 7168) :
    (((cfg0.win 6).blk t).view.read (Elt F) G : Vec F S512x7168 .fp8e4m3) (ix2 i k) = G (ix2 (row t i) k) := by
  have h : ∀ t : Fin grid0.N, win0_6.index t 0 = t.val ∧ win0_6.index t 1 = 0 := by decide +kernel
  refine congrArg G (funext fun a => Fin.ext ?_)
  match a with
  | ⟨0, _⟩ => show win0_6.index t 0 * 512 + 1 * i.val = t.val * 512 + i.val; rw [(h t).1]; omega
  | ⟨1, _⟩ => show win0_6.index t 1 * 7168 + 1 * k.val = k.val; rw [(h t).2]; omega

/-- What point `t` writes back to the result's array. -/
theorem flushed5 (c : Dev nD) (t : Fin cfg0.N) :
    ((dats m 0 c).flushed 5 t : Vec F S512x1792 .bf16)
      = k0_pay2 ((V m c main_v0 : Vec F S1 .f32) i1) (k0_pay1 ((V m c main_v0 : Vec F S1 .f32) i1) (iblk m c 1 t)) (V m c main_arg1) (V m c main_v2) (V m c main_v3) := by
  show (cfg0.win 5).cut (grid0.coords t) ((dats m 0 c).after 5 t) = _
  rw [after0_5]
  simp only [outsAt0]
  rw [out5_eq, blk0, blk2, blk3, blk4]
  rfl

/-- What point `t` writes back to the codes' array. -/
theorem flushed6 (c : Dev nD) (t : Fin cfg0.N) :
    ((dats m 0 c).flushed 6 t : Vec F S512x7168 .fp8e4m3) = k0_pay1 ((V m c main_v0 : Vec F S1 .f32) i1) (iblk m c 1 t) := by
  show (cfg0.win 6).cut (grid0.coords t) ((dats m 0 c).after 6 t) = _
  rw [after0_6]
  simp only [outsAt0]
  rw [out6_eq, blk0]
  rfl

/-- Every row of the result lies in some point's block. -/
theorem cover5 (i : S4096x1792.Idx) : ∃ t : Fin cfg0.N, (cfg0.win 5).flush t = true ∧ i ∈ ((cfg0.win 5).blk t).view.set := by
  have h : ∀ t : Fin grid0.N, win0_5.index t 0 = t.val ∧ win0_5.index t 1 = 0 := by decide +kernel
  have h0 : (i 0).val < 4096 := (i 0).isLt
  have h1 : (i 1).val < 1792 := (i 1).isLt
  obtain ⟨t, ht⟩ : ∃ t : Fin grid0.N, t.val = (i 0).val / 512 := ⟨⟨(i 0).val / 512, by rw [N_0]; omega⟩, rfl⟩
  refine ⟨t, flush0_5 t, ?_⟩
  show i ∈ ((View.whole main_v4_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(h t).1, ht]; omega
  | ⟨1, _⟩ => show win0_5.index t 1 * 1792 ≤ (i 1).val ∧ (i 1).val < win0_5.index t 1 * 1792 + 1792; rw [(h t).2]; omega

/-- Every row of the codes lies in some point's block. -/
theorem cover6 (i : S4096x7168.Idx) : ∃ t : Fin cfg0.N, (cfg0.win 6).flush t = true ∧ i ∈ ((cfg0.win 6).blk t).view.set := by
  have h : ∀ t : Fin grid0.N, win0_6.index t 0 = t.val ∧ win0_6.index t 1 = 0 := by decide +kernel
  have h0 : (i 0).val < 4096 := (i 0).isLt
  have h1 : (i 1).val < 7168 := (i 1).isLt
  obtain ⟨t, ht⟩ : ∃ t : Fin grid0.N, t.val = (i 0).val / 512 := ⟨⟨(i 0).val / 512, by rw [N_0]; omega⟩, rfl⟩
  refine ⟨t, flush0_6 t, ?_⟩
  show i ∈ ((View.whole main_v4_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(h t).1, ht]; omega
  | ⟨1, _⟩ => show win0_6.index t 1 * 7168 ≤ (i 1).val ∧ (i 1).val < win0_6.index t 1 * 7168 + 7168; rw [(h t).2]; omega

end Blocks

variable (m : (ℓ : Loc nD τ sig) → Buf (Elt Ideal) ℓ)

/-- The scale the kernel reads. -/
def scale (c : Dev nD) : EReal := (V m c main_v0 : Vec Ideal S1 .f32) i1

/-- The result's array: every element the layer's output of its row and its column. -/
def G5 (c : Dev nD) : Vec Ideal S4096x1792 .bf16 := fun i =>
  Spec.linear (scale m c) (fun k => (V m c main_v1 : Vec Ideal S4096x7168 .bf16) (ix2 (i 0) k))
    (fun k => (V m c main_arg1 : Vec Ideal S1792x7168 .fp8e4m3) (ix2 (i 1) k))
    ((V m c main_v2 : Vec Ideal S1x1792 .f32) (ix2 (0 : Fin 1) (i 1))) ((V m c main_v3 : Vec Ideal S1x1792 .bf16) (ix2 (0 : Fin 1) (i 1)))

/-- The codes' array: every element the code of its activation. -/
def G6 (c : Dev nD) : Vec Ideal S4096x7168 .fp8e4m3 := fun i =>
  Spec.code (scale m c) ((V m c main_v1 : Vec Ideal S4096x7168 .bf16) i)

/-- After the run the result's array is `G5`. -/
theorem final5 (c : Dev nD) : (dats m 0 c).arrAt 5 cfg0.N = G5 m c := by
  refine (dats m 0 c).arrAt_eq_of_cover 5 (G5 m c) (fun t _ => ?_) cover5
  rw [flushed5]
  refine funext fun (y : S512x1792.Idx) => ?_
  obtain ⟨i, n, rfl⟩ : ∃ (i : Fin 512) (n : Fin 1792), y = ix2 i n := ⟨y 0, y 1, funext fun a => by fin_cases a <;> rfl⟩
  refine (KernelPayload.pay2_apply _ _ _ _ _ i n).trans (Eq.trans ?_ (read5 t (G5 m c) i n).symm)
  simp only [blk1]
  rfl

/-- After the run the codes' array is `G6`. -/
theorem final6 (c : Dev nD) : (dats m 0 c).arrAt 6 cfg0.N = G6 m c := by
  refine (dats m 0 c).arrAt_eq_of_cover 6 (G6 m c) (fun t _ => ?_) cover6
  rw [flushed6]
  refine funext fun (y : S512x7168.Idx) => ?_
  obtain ⟨i, k, rfl⟩ : ∃ (i : Fin 512) (k : Fin 7168), y = ix2 i k := ⟨y 0, y 1, funext fun a => by fin_cases a <;> rfl⟩
  refine (KernelPayload.pay1_apply _ _ i k).trans (Eq.trans ?_ (read6 t (G6 m c) i k).symm)
  simp only [blk1]
  rfl

end Cert.Proof.KernelArray

end
-- ==== Proof.KernelRun.lean ====
/-
  The kernel's run, on extended reals: its two computed results are the plain mathematics of the arguments (`Spec.outs`,
  `Spec.codes`), and the arguments end unchanged. The reshapes around the pipelined region are read here.
-/
module

public import proofs.«01_k».proof.Proof.KernelArray

@[expose] public section

set_option maxRecDepth 16384

noncomputable section

namespace Cert.Proof.KernelRun

open Idealize.ShloMosaic Idealize.ShloMosaic.TcCoe Idealize.SL.Sem
open Cert.KernelIdeal Cert.KernelIdeal.Gen
open Cert.Proof.KernelBlock Cert.Proof.KernelArray

variable (m : (ℓ : Loc nD τ sig) → Buf (Elt Ideal) ℓ) (ρ : Dev nD → PrngReg)

/-- The scale argument's one value. -/
def argScale (c : Dev nD) : EReal := (m ((c : Thread nD τ).loc main_arg3) : Vec Ideal S_ .f32) ix0

/-- The kernel's first result, of the arguments as launched. -/
def Y (c : Dev nD) : Vec Ideal S2x2048x1792 .bf16 :=
  Spec.outs (m ((c : Thread nD τ).loc main_arg0)) (m ((c : Thread nD τ).loc main_arg1)) (m ((c : Thread nD τ).loc main_arg2))
    (argScale m c) (m ((c : Thread nD τ).loc main_arg4))

/-- The kernel's second result. -/
def C (c : Dev nD) : Vec Ideal S2x2048x7168 .fp8e4m3 := Spec.codes (m ((c : Thread nD τ).loc main_arg0)) (argScale m c)

/-- The scale read by the region is the scale argument. -/
theorem scale_eq (c : Dev nD) : scale m c = argScale m c := by
  unfold scale argScale
  simp only [V, V0, hostOps0, List.flatten_cons, List.flatten_nil, List.append_nil]
  after_results
  pointwise

/-- Row `2048 b + r` of the flattened activations is row `(b, r)` of the argument. -/
theorem x_eq (c : Dev nD) (b : Fin 2) (r : Fin 2048) (k : Fin 7168) (h : b.val * 2048 + r.val < 4096) :
    (V m c main_v1 : Vec Ideal S4096x7168 .bf16) (ix2 (⟨b.val * 2048 + r.val, h⟩ : Fin 4096) k)
      = (m ((c : Thread nD τ).loc main_arg0) : Vec Ideal S2x2048x7168 .bf16) (ix3 b r k) := by
  simp only [V, V0, hostOps0, List.flatten_cons, List.flatten_nil, List.append_nil]
  after_results
  pointwise

/-- The weight scales the region reads are the argument's. -/
theorem ws_eq (c : Dev nD) (n : Fin 1792) :
    (V m c main_v2 : Vec Ideal S1x1792 .f32) (ix2 (0 : Fin 1) n) = (m ((c : Thread nD τ).loc main_arg2) : Vec Ideal S1792 .f32) (ix1 n) := by
  simp only [V, V0, hostOps0, List.flatten_cons, List.flatten_nil, List.append_nil]
  after_results
  pointwise

/-- The bias the region reads is the argument's. -/
theorem b_eq (c : Dev nD) (n : Fin 1792) :
    (V m c main_v3 : Vec Ideal S1x1792 .bf16) (ix2 (0 : Fin 1) n) = (m ((c : Thread nD τ).loc main_arg4) : Vec Ideal S1792 .bf16) (ix1 n) := by
  simp only [V, V0, hostOps0, List.flatten_cons, List.flatten_nil, List.append_nil]
  after_results
  pointwise

/-- Row `2048 b + r` of the result's array is row `(b, r)` of the first result. -/
theorem G5_eq (c : Dev nD) (b : Fin 2) (r : Fin 2048) (n : Fin 1792) (h : b.val * 2048 + r.val < 4096) :
    G5 m c (ix2 (⟨b.val * 2048 + r.val, h⟩ : Fin 4096) n) = Y m c (ix3 b r n) := by
  show Spec.linear (scale m c) (fun k => (V m c main_v1 : Vec Ideal S4096x7168 .bf16) (ix2 (⟨b.val * 2048 + r.val, h⟩ : Fin 4096) k))
    (fun k => (V m c main_arg1 : Vec Ideal S1792x7168 .fp8e4m3) (ix2 n k))
    ((V m c main_v2 : Vec Ideal S1x1792 .f32) (ix2 (0 : Fin 1) n)) ((V m c main_v3 : Vec Ideal S1x1792 .bf16) (ix2 (0 : Fin 1) n)) = _
  exact congr (congr (congr (congr (congrArg Spec.linear (scale_eq m c)) (funext fun k => x_eq m c b r k h))
    (funext fun k => congrFun (V_main_arg1 m c) (ix2 n k))) (ws_eq m c n)) (b_eq m c n)

/-- Row `2048 b + r` of the codes' array is row `(b, r)` of the second result. -/
theorem G6_eq (c : Dev nD) (b : Fin 2) (r : Fin 2048) (k : Fin 7168) (h : b.val * 2048 + r.val < 4096) :
    G6 m c (ix2 (⟨b.val * 2048 + r.val, h⟩ : Fin 4096) k) = C m c (ix3 b r k) := by
  unfold G6
  rw [scale_eq, x_eq]
  rfl

/-- The reshape after the region gives the first result from its array. -/
theorem tail5 (c : Dev nD) : Pipeline.afterTail₀ cfgs (dats m) 0 (V0 m) [hostOps1] c main_v5 = Y m c := by
  have h : Pipeline.withArrays (cfgs 0).spec c (V0 m c) (fun w => (dats m 0 c).arrAt w (cfgs 0).N) (Proc.tc.devRef main_v4_0) = G5 m c :=
    (Pipeline.withArrays_arr spec0 (by decide) c (V0 m c) (fun w => (dats m 0 c).arrAt w cfg0.N) 5).trans (final5 m c)
  unfold Pipeline.afterTail₀
  simp only [hostOps1, List.flatten_cons, List.flatten_nil, List.append_nil]
  after_results
  rw [h]
  funext j
  idx_vars j
  pointwise
  exact G5_eq m c j0 j1 j2 _

/-- The reshape after the region gives the second result from its array. -/
theorem tail6 (c : Dev nD) : Pipeline.afterTail₀ cfgs (dats m) 0 (V0 m) [hostOps1] c main_v6 = C m c := by
  have h : Pipeline.withArrays (cfgs 0).spec c (V0 m c) (fun w => (dats m 0 c).arrAt w (cfgs 0).N) (Proc.tc.devRef main_v4_1) = G6 m c :=
    (Pipeline.withArrays_arr spec0 (by decide) c (V0 m c) (fun w => (dats m 0 c).arrAt w cfg0.N) 6).trans (final6 m c)
  unfold Pipeline.afterTail₀
  simp only [hostOps1, List.flatten_cons, List.flatten_nil, List.append_nil]
  after_results
  rw [h]
  funext j
  idx_vars j
  pointwise
  exact G6_eq m c j0 j1 j2 _

/-- The run: the two computed results, the scale passed through, and every argument unchanged. -/
theorem run : θ_run defs (onTc (τ := τ) (main (F := Ideal))) ⟨m, fun _ => 0, ρ⟩ fun r => ∀ c : Dev nD,
      r.2.mem ((c : Thread nD τ).loc main_v5) = Y m c
      ∧ r.2.mem ((c : Thread nD τ).loc main_v6) = C m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h c).2 main_v5 (Pipeline.mem_restRefs_of main_v5 (by decide) (by decide))).trans (tail5 m c),
      ((h c).2 main_v6 (Pipeline.mem_restRefs_of main_v6 (by decide) (by decide))).trans (tail6 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.KernelRun

end
-- ==== Proof.ReferencePayload.lean ====
/-
  The reference's two payloads read at an index, on extended reals: a code is `Spec.code` of the element, and an output element
  is `Spec.linear` of its row of activations and its row of weights.
-/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.Proof.ReferencePayload

open Idealize.ShloMosaic
open Cert.ReferenceIdeal Cert.ReferenceIdeal.Gen

/-- A code of the reference. -/
theorem pay1_apply (x : Vec Ideal S2x2048x7168 .bf16) (s : Vec Ideal S1x1x1 .f32) (b : Fin 2) (r : Fin 2048) (k : Fin 7168) :
    k0_pay1 (F := Ideal) x s (ix3 b r k) = Spec.code (s (ix3 (0 : Fin 1) (0 : Fin 1) (0 : Fin 1))) (x (ix3 b r k)) := by
  unfold k0_pay1 Spec.code
  pointwise

/-- An output element of the reference: the layer's output of its row of activations and its row of weights. -/
theorem pay2_apply (x : Vec Ideal S2x2048x7168 .bf16) (s : Vec Ideal S1x1x1 .f32) (w : Vec Ideal S1792x7168 .fp8e4m3)
    (ws : Vec Ideal S1x1x1792 .f32) (bias : Vec Ideal S1x1x1792 .bf16) (b : Fin 2) (r : Fin 2048) (n : Fin 1792) :
    k0_pay2 (F := Ideal) x s w s ws bias (ix3 b r n)
      = Spec.linear (s (ix3 (0 : Fin 1) (0 : Fin 1) (0 : Fin 1))) (fun k => x (ix3 b r k)) (fun k => w (ix2 n k))
          (ws (ix3 (0 : Fin 1) (0 : Fin 1) n)) (bias (ix3 (0 : Fin 1) (0 : Fin 1) n)) := by
  unfold k0_pay2 Spec.linear
  simp only [← pay1_apply]
  pointwise

end Cert.Proof.ReferencePayload

end
-- ==== Proof.ReferenceArray.lean ====
/-
  What the reference's two result arrays hold after its run: the reference is one point whose blocks are the whole arrays,
  so each array is its payload of the arguments.
-/
module

public import proofs.«01_k».proof.Proof.Gen.ReferenceIdeal.Value
public import proofs.«01_k».proof.Proof.ReferencePayload
public import Idealize.ShloMosaic.Lib.Claim

@[expose] public section

set_option maxRecDepth 16384

noncomputable section

namespace Cert.Proof.ReferenceArray

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- The one grid point. -/
def t₀ : Fin cfg0.N := ⟨0, by decide⟩

-- a rectangle at the origin of a buffer, as the program writes it
theorem hz3 : (![0, 0, 0] : Fin 3 → Nat) = fun _ => 0 := funext fun a => by fin_cases a <;> rfl
theorem hz2 : (![0, 0] : Fin 2 → Nat) = fun _ => 0 := funext fun a => by fin_cases a <;> rfl

/-- The body's result block is its second payload of the whole input blocks. -/
theorem out5_eq (x0 : Vec F S2x2048x7168 .bf16) (x1 : Vec F S1792x7168 .fp8e4m3) (x2 : Vec F S1x1x1792 .f32) (x3 : Vec F S1x1x1 .f32)
    (x4 : Vec F S1x1x1792 .bf16) : out0_5 x0 x1 x2 x3 x4 = k0_pay2 x0 x3 x1 x3 x2 x4 := by
  unfold out0_5
  rw [View.canon_unit_zero hz3, View.ld_unit_zero hz3, View.ld_unit_zero hz3, View.ld_unit_zero hz2, View.ld_unit_zero hz3,
    View.ld_unit_zero hz3]

/-- The body's codes block is its first payload. -/
theorem out6_eq (x0 : Vec F S2x2048x7168 .bf16) (x1 : Vec F S1792x7168 .fp8e4m3) (x2 : Vec F S1x1x1792 .f32) (x3 : Vec F S1x1x1 .f32)
    (x4 : Vec F S1x1x1792 .bf16) : out0_6 x0 x1 x2 x3 x4 = k0_pay1 x0 x3 := by
  unfold out0_6
  rw [View.canon_unit_zero hz3, View.ld_unit_zero hz3, View.ld_unit_zero hz3]

-- the one point's block of each input is the whole array
/-- The activations' block is the whole array. -/
theorem blk0 (c : Dev nD) : iblk m c 0 t₀ = V m c main_arg0 :=
  Memref.read_access_unit_zero (Elt F) main_arg0 (funext fun a => by fin_cases a <;> decide) (fun a => by fin_cases a <;> decide) _
/-- The weights' block is the whole array. -/
theorem blk1 (c : Dev nD) : iblk m c 1 t₀ = V m c main_arg1 :=
  Memref.read_access_unit_zero (Elt F) main_arg1 (funext fun a => by fin_cases a <;> decide) (fun a => by fin_cases a <;> decide) _
/-- The weight scales' block is the whole array. -/
theorem blk2 (c : Dev nD) : iblk m c 2 t₀ = V m c main_v0 :=
  Memref.read_access_unit_zero (Elt F) main_v0 (funext fun a => by fin_cases a <;> decide) (fun a => by fin_cases a <;> decide) _
/-- The scale's block is the whole array. -/
theorem blk3 (c : Dev nD) : iblk m c 3 t₀ = V m c main_v1 :=
  Memref.read_access_unit_zero (Elt F) main_v1 (funext fun a => by fin_cases a <;> decide) (fun a => by fin_cases a <;> decide) _
/-- The bias's block is the whole array. -/
theorem blk4 (c : Dev nD) : iblk m c 4 t₀ = V m c main_v2 :=
  Memref.read_access_unit_zero (Elt F) main_v2 (funext fun a => by fin_cases a <;> decide) (fun a => by fin_cases a <;> decide) _

/-- The result array after the run. -/
theorem final5 (c : Dev nD) : (dats m 0 c).arrAt 5 cfg0.N
    = k0_pay2 (V m c main_arg0) (V m c main_v1) (V m c main_arg1) (V m c main_v1) (V m c main_v0) (V m c main_v2) := by
  have h := Value.blocks5 m c t₀ (by decide)
  have hr := fun f => Memref.read_access_unit_zero (Elt F) main_v3_0 (off := fun a => win0_5.index t₀ a * main_v3_0.ty.shape.size a)
    (funext fun a => by fin_cases a <;> decide) (fun a => by fin_cases a <;> decide) f
  rw [hr, Value.flushed5, out5_eq] at h
  rw [h, blk0, blk1, blk2, blk3, blk4]
  rfl

/-- The codes array after the run. -/
theorem final6 (c : Dev nD) : (dats m 0 c).arrAt 6 cfg0.N = k0_pay1 (V m c main_arg0) (V m c main_v1) := by
  have h := Value.blocks6 m c t₀ (by decide)
  have hr := fun f => Memref.read_access_unit_zero (Elt F) main_v3_1 (off := fun a => win0_6.index t₀ a * main_v3_1.ty.shape.size a)
    (funext fun a => by fin_cases a <;> decide) (fun a => by fin_cases a <;> decide) f
  rw [hr, Value.flushed6, out6_eq] at h
  rw [h, blk0, blk3]
  rfl

end Cert.Proof.ReferenceArray

end
-- ==== Proof.ReferenceRun.lean ====
/-
  The reference's run, on extended reals: its two computed results are the plain mathematics of the arguments, and the
  arguments end unchanged.
-/
module

public import proofs.«01_k».proof.Proof.ReferenceArray

@[expose] public section

set_option maxRecDepth 16384

noncomputable section

namespace Cert.Proof.ReferenceRun

open Idealize.ShloMosaic Idealize.ShloMosaic.TcCoe Idealize.SL.Sem
open Cert.ReferenceIdeal Cert.ReferenceIdeal.Gen
open Cert.Proof.ReferenceArray

variable (m : (ℓ : Loc nD τ sig) → Buf (Elt Ideal) ℓ) (ρ : Dev nD → PrngReg)

/-- The scale argument's one value. -/
def argScale (c : Dev nD) : EReal := (m ((c : Thread nD τ).loc main_arg3) : Vec Ideal S_ .f32) ix0

/-- The reference's first result, of the arguments as launched. -/
def Y (c : Dev nD) : Vec Ideal S2x2048x1792 .bf16 :=
  Spec.outs (m ((c : Thread nD τ).loc main_arg0)) (m ((c : Thread nD τ).loc main_arg1)) (m ((c : Thread nD τ).loc main_arg2))
    (argScale m c) (m ((c : Thread nD τ).loc main_arg4))

/-- The reference's second result. -/
def C (c : Dev nD) : Vec Ideal S2x2048x7168 .fp8e4m3 := Spec.codes (m ((c : Thread nD τ).loc main_arg0)) (argScale m c)

-- the reshapes before the region, read at an index
theorem scale_eq (c : Dev nD) : (V m c main_v1 : Vec Ideal S1x1x1 .f32) (ix3 (0 : Fin 1) (0 : Fin 1) (0 : Fin 1)) = argScale m c := by
  unfold argScale
  simp only [V, hostOps0]
  after_results
  pointwise

theorem ws_eq (c : Dev nD) (n : Fin 1792) : (V m c main_v0 : Vec Ideal S1x1x1792 .f32) (ix3 (0 : Fin 1) (0 : Fin 1) n)
    = (m ((c : Thread nD τ).loc main_arg2) : Vec Ideal S1792 .f32) (ix1 n) := by
  simp only [V, hostOps0]
  after_results
  pointwise

theorem b_eq (c : Dev nD) (n : Fin 1792) : (V m c main_v2 : Vec Ideal S1x1x1792 .bf16) (ix3 (0 : Fin 1) (0 : Fin 1) n)
    = (m ((c : Thread nD τ).loc main_arg4) : Vec Ideal S1792 .bf16) (ix1 n) := by
  simp only [V, hostOps0]
  after_results
  pointwise

/-- The result array is the first result. -/
theorem final5_eq (c : Dev nD) : (dats m 0 c).arrAt 5 cfg0.N = Y m c := by
  rw [final5]
  funext j
  idx_vars j
  refine (ReferencePayload.pay2_apply _ _ _ _ _ j0 j1 j2).trans ?_
  exact congr (congr (congr (congr (congrArg Spec.linear (scale_eq m c)) (funext fun k => congrFun (V_main_arg0 m c) (ix3 j0 j1 k)))
    (funext fun k => congrFun (V_main_arg1 m c) (ix2 j2 k))) (ws_eq m c j2)) (b_eq m c j2)

/-- The codes array is the second result. -/
theorem final6_eq (c : Dev nD) : (dats m 0 c).arrAt 6 cfg0.N = C m c := by
  rw [final6]
  funext j
  idx_vars j
  refine (ReferencePayload.pay1_apply _ _ j0 j1 j2).trans ?_
  exact congr (congrArg Spec.code (scale_eq m c)) (congrFun (V_main_arg0 m c) (ix3 j0 j1 j2))

/-- The run: the two computed results, and every argument unchanged. -/
theorem run : θ_run defs (onTc (τ := τ) (main (F := Ideal))) ⟨m, fun _ => 0, ρ⟩ fun r => ∀ c : Dev nD,
      r.2.mem ((c : Thread nD τ).loc main_v3_0) = Y m c
      ∧ r.2.mem ((c : Thread nD τ).loc main_v3_1) = C m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5_eq m c), (h c).2.1.trans (final6_eq m c), (h c).2.2⟩) (Value.run_blocks m ρ)

end Cert.Proof.ReferenceRun

end
-- ==== Proof.Equation.lean ====
/-
  The equation: from memories that agree on the five arguments, both programs run, their three results are equal, and their
  arguments end unchanged. The third result is the input scale, which both pass through.
-/
module

public import proofs.«01_k».proof.Defs
public import proofs.«01_k».proof.Proof.KernelRun
public import proofs.«01_k».proof.Proof.ReferenceRun

@[expose] public section

set_option maxRecDepth 16384

noncomputable section

namespace Cert.Proof.Equation

open Idealize.ShloMosaic Idealize.ShloMosaic.TcCoe Idealize.SL.Sem

/-- The value claim. -/
theorem algebraic : Cert.algebraic_KernelIdeal_ReferenceIdeal
    (hKernelIdeal := Cert.KernelIdeal.Gen.facts) (hReferenceIdeal := Cert.ReferenceIdeal.Gen.facts) := by
  intro m g m' g' _ h
  refine ⟨fun c => KernelRun.Y m c, fun c => KernelRun.C m c,
    fun c => m ((c.tc : Thread Cert.KernelIdeal.nD Cert.KernelIdeal.τ).loc Cert.KernelIdeal.main_arg3), ?_, ?_⟩
  · refine (θ_run _ _ _).mono (fun _ hr c => ?_) (KernelRun.run m g)
    obtain ⟨hy, hc, h0, h1, h2, h3, h4⟩ := hr c
    exact ⟨hy, hc, h3, h0, h1, h2, h3, h4⟩
  · refine (θ_run _ _ _).mono (fun _ hr c => ?_) (ReferenceRun.run m' g')
    obtain ⟨hy, hc, h0, h1, h2, h3, h4⟩ := hr c
    obtain ⟨e0, e1, e2, e3, e4⟩ := h c
    have es : ReferenceRun.argScale m' c = KernelRun.argScale m c := congrFun e3 ix0
    have ey : ReferenceRun.Y m' c = KernelRun.Y m c := by
      unfold ReferenceRun.Y KernelRun.Y
      exact congr (congr (congr (congr (congrArg Spec.outs e0) e1) e2) es) e4
    have ec : ReferenceRun.C m' c = KernelRun.C m c := by
      unfold ReferenceRun.C KernelRun.C
      exact congr (congrArg Spec.codes e0) es
    exact ⟨hy.trans ey, hc.trans ec, h3.trans e3, h0, h1, h2, h3, h4⟩

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate: the three frames, the idealization, and the value claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Equation.algebraic⟩

end Cert.Proof

end
